-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_denominators_nonzero [hPre_denominators_nonzero : Cert.Pre_denominators_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_denominators_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_denominators_nonzero [hPre_denominators_nonzero : Cert.Pre_denominators_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_denominators_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_denominators_nonzero [hKernelIdeal : Cert.KernelIdeal.Facts] [hPre_denominators_nonzero : Cert.Pre_denominators_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_denominators_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_denominators_nonzero [hReferenceIdeal : Cert.ReferenceIdeal.Facts] [hPre_denominators_nonzero : Cert.Pre_denominators_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_denominators_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_denominators_nonzero [hKernelIdeal : Cert.KernelIdeal.Facts] [hReferenceIdeal : Cert.ReferenceIdeal.Facts] [hPre_denominators_nonzero : Cert.Pre_denominators_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_denominators_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_denominators_nonzero : Cert.Pre_denominators_nonzero.Facts),
    quiescent_Kernel (hKernel := hKernel)
    ∧ quiescent_KernelIdeal (hKernelIdeal := hKernelIdeal)
    ∧ quiescent_KernelIdeal_pre_denominators_nonzero (hKernelIdeal := hKernelIdeal) (hPre_denominators_nonzero := hPre_denominators_nonzero)
    ∧ quiescent_ReferenceIdeal (hReferenceIdeal := hReferenceIdeal)
    ∧ quiescent_ReferenceIdeal_pre_denominators_nonzero (hReferenceIdeal := hReferenceIdeal) (hPre_denominators_nonzero := hPre_denominators_nonzero)
    ∧ preserves_Kernel_KernelIdeal
    ∧ algebraic_KernelIdeal_ReferenceIdeal_pre_denominators_nonzero (hKernelIdeal := hKernelIdeal) (hReferenceIdeal := hReferenceIdeal) (hPre_denominators_nonzero := hPre_denominators_nonzero)
-- ==== Pre_denominators_nonzero.lean ====
abbrev S8x2048x64 : Shape := ⟨3, ![8, 2048, 64]⟩
abbrev S8x2048x2048 : Shape := ⟨3, ![8, 2048, 2048]⟩
abbrev S128x64 : Shape := ⟨2, ![128, 64]⟩
abbrev S64 : Shape := ⟨1, ![64]⟩
abbrev S64x64 : Shape := ⟨2, ![64, 64]⟩
abbrev S_ : Shape := ⟨0, ![]⟩
abbrev S8x2048 : Shape := ⟨2, ![8, 2048]⟩
abbrev S8x2048x1 : Shape := ⟨3, ![8, 2048, 1]⟩

class Facts : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)

variable [Facts]

def fn {F : FTy → Type} [FloatOps F] (main_arg0 : FVec F S8x2048x64 .f32) (main_arg1 : FVec F S8x2048x2048 .f32) (main_arg2 : FVec F S128x64 .f32) (main_arg3 : FVec F S64 .f32) (main_arg4 : FVec F S64 .f32) (main_arg5 : FVec F S128x64 .f32) (main_arg6 : FVec F S64 .f32) (main_arg7 : FVec F S64 .f32) (main_arg8 : FVec F S128x64 .f32) (main_arg9 : FVec F S64 .f32) (main_arg10 : FVec F S64 .f32) (main_arg11 : FVec F S128x64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_arg20 : FVec F S64x64 .f32) (main_arg21 : FVec F S64 .f32) : IVec S8x2048x1 1 :=
  let main_cst : FVec F S_ .f32 := constant S_ .f32 0x00000000#32
  let main_v0 : FVec F S8x2048 .f32 := (fun x v => Host.reduceAdd x v reducesTo_S8x2048x2048_S8x2048_d2 h_S_) main_arg1 main_cst
  let main_v1 : FVec F S8x2048x1 .f32 := broadcastInDim S8x2048x1 ![0, 1] bcast_S8x2048_S8x2048x1_0_1 main_v0
  let main_cst_0 : FVec F S_ .f32 := constant S_ .f32 0x358637BD#32
  let main_v2 : FVec F S8x2048x1 .f32 := broadcastInDim S8x2048x1 ![] bcast_S_S8x2048x1 main_cst_0
  let main_v3 : FVec F S8x2048x1 .f32 := addf main_v1 main_v2
  let main_cst_1 : FVec F S_ .f32 := constant S_ .f32 0x00000000#32
  let main_v4 : FVec F S8x2048x1 .f32 := broadcastInDim S8x2048x1 ![] bcast_S_S8x2048x1 main_cst_1
  let main_v5 : IVec S8x2048x1 1 := cmpf .une main_v3 main_v4
  main_v5
-- ==== Kernel.lean ====
abbrev S8x2048x64 : Shape := ⟨3, ![8, 2048, 64]⟩
abbrev S8x2048x2048 : Shape := ⟨3, ![8, 2048, 2048]⟩
abbrev S128x64 : Shape := ⟨2, ![128, 64]⟩
abbrev S64 : Shape := ⟨1, ![64]⟩
abbrev S64x64 : Shape := ⟨2, ![64, 64]⟩
abbrev S_ : Shape := ⟨0, ![]⟩
abbrev S128x256 : Shape := ⟨2, ![128, 256]⟩
abbrev S64x256 : Shape := ⟨2, ![64, 256]⟩
abbrev S256 : Shape := ⟨1, ![256]⟩
abbrev S1x256 : Shape := ⟨2, ![1, 256]⟩
abbrev S1x64 : Shape := ⟨2, ![1, 64]⟩
abbrev S8x1x64 : Shape := ⟨3, ![8, 1, 64]⟩
abbrev S1x2048x2048 : Shape := ⟨3, ![1, 2048, 2048]⟩
abbrev S1x2048x64 : Shape := ⟨3, ![1, 2048, 64]⟩
abbrev S1x1x64 : Shape := ⟨3, ![1, 1, 64]⟩
abbrev S2048x2048 : Shape := ⟨2, ![2048, 2048]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S2048x64 : Shape := ⟨2, ![2048, 64]⟩
abbrev S8x2048 : Shape := ⟨2, ![8, 2048]⟩
abbrev S8x128 : Shape := ⟨2, ![8, 128]⟩
abbrev S8x64 : Shape := ⟨2, ![8, 64]⟩
abbrev S8x256 : Shape := ⟨2, ![8, 256]⟩

abbrev nBuf : Space → Nat
  | .hbm => 54
  | .vmem => 20
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S_, .f32⟩
  | .hbm, ⟨26, _⟩ => ⟨S128x64, .f32⟩
  | .hbm, ⟨27, _⟩ => ⟨S128x64, .f32⟩
  | .hbm, ⟨28, _⟩ => ⟨S_, .f32⟩
  | .hbm, ⟨29, _⟩ => ⟨S128x64, .f32⟩
  | .hbm, ⟨30, _⟩ => ⟨S128x64, .f32⟩
  | .hbm, ⟨31, _⟩ => ⟨S128x256, .f32⟩
  | .hbm, ⟨32, _⟩ => ⟨S64x256, .f32⟩
  | .hbm, ⟨33, _⟩ => ⟨S64x256, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S256, .f32⟩
  | .hbm, ⟨48, _⟩ => ⟨S1x256, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S8x1x64, .f32⟩
  | .local _ .vmem, ⟨0, _⟩ => ⟨S1x2048x2048, .f32⟩
  | .local _ .vmem, ⟨1, _⟩ => ⟨S1x2048x2048, .f32⟩
  | .local _ .vmem, ⟨2, _⟩ => ⟨S1x2048x64, .f32⟩
  | .local _ .vmem, ⟨3, _⟩ => ⟨S1x2048x64, .f32⟩
  | .local _ .vmem, ⟨4, _⟩ => ⟨S64x256, .f32⟩
  | .local _ .vmem, ⟨5, _⟩ => ⟨S64x256, .f32⟩
  | .local _ .vmem, ⟨6, _⟩ => ⟨S1x256, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S1x1x64, .f32⟩
  | .local _ .vmem, ⟨16, _⟩ => ⟨S1x1x64, .f32⟩
  | .local _ .vmem, ⟨17, _⟩ => ⟨S2048x2048, .bf16⟩
  | .local _ .vmem, ⟨18, _⟩ => ⟨S2048x256, .f32⟩
  | .local _ .vmem, ⟨19, _⟩ => ⟨S2048x128, .bf16⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_cst_0 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c10_i32 : BitVec 32 := 10#32
  let v57 : BitVec 32 := Scalar.addi c0_i32 c10_i32
  let c1_i32 : BitVec 32 := 1#32
  ⟨c0_i32, v57, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8x2048x64 : Shape := ⟨3, ![8, 2048, 64]⟩
abbrev S8x2048x2048 : Shape := ⟨3, ![8, 2048, 2048]⟩
abbrev S128x64 : Shape := ⟨2, ![128, 64]⟩
abbrev S64 : Shape := ⟨1, ![64]⟩
abbrev S64x64 : Shape := ⟨2, ![64, 64]⟩
abbrev S_ : Shape := ⟨0, ![]⟩
abbrev S8x2048 : Shape := ⟨2, ![8, 2048]⟩
abbrev S8x2048x1 : Shape := ⟨3, ![8, 2048, 1]⟩
abbrev S8x2048x128 : Shape := ⟨3, ![8, 2048, 128]⟩
abbrev S1x1x64 : Shape := ⟨3, ![1, 1, 64]⟩
abbrev S8x1x64 : Shape := ⟨3, ![8, 1, 64]⟩
abbrev S8x64 : Shape := ⟨2, ![8, 64]⟩
abbrev S1x64 : Shape := ⟨2, ![1, 64]⟩

abbrev nBuf : Space → Nat
  | .hbm => 144
  | .vmem => 0
  | .smem => 0
  | _ => 0

abbrev hbmTy0_0 (i : Nat) : BufTy := match i % 128 with
  | 0 => ⟨S8x2048x64, .f32⟩
  | 1 => ⟨S8x2048x2048, .f32⟩
  | 2 => ⟨S128x64, .f32⟩
  | 3 => ⟨S64, .f32⟩
  | 4 => ⟨S64, .f32⟩
  | 5 => ⟨S128x64, .f32⟩
  | 6 => ⟨S64, .f32⟩
  | 7 => ⟨S64, .f32⟩
  | 8 => ⟨S128x64, .f32⟩
  | 9 => ⟨S64, .f32⟩
  | 10 => ⟨S64, .f32⟩
  | 11 => ⟨S128x64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x64, .f32⟩
  | 19 => ⟨S64, .f32⟩
  | 20 => ⟨S64x64, .f32⟩
  | 21 => ⟨S64, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S8x2048x2048, .f32⟩
  | 29 => ⟨S8x2048x2048, .f32⟩
  | 30 => ⟨S_, .f32⟩
  | 31 => ⟨S8x2048x64, .f32⟩
  | 32 => ⟨S_, .f32⟩
  | 33 => ⟨S8x2048x64, .f32⟩
  | 34 => ⟨S_, .i32⟩
  | 35 => ⟨S8x2048x64, .f32⟩
  | 36 => ⟨S8x2048x2048, .f32⟩
  | 37 => ⟨S128x64, .f32⟩
  | 38 => ⟨S64, .f32⟩
  | 39 => ⟨S64, .f32⟩
  | 40 => ⟨S128x64, .f32⟩
  | 41 => ⟨S64, .f32⟩
  | 42 => ⟨S64, .f32⟩
  | 43 => ⟨S128x64, .f32⟩
  | 44 => ⟨S64, .f32⟩
  | 45 => ⟨S64, .f32⟩
  | 46 => ⟨S128x64, .f32⟩
  | 47 => ⟨S64, .f32⟩
  | 48 => ⟨S64, .f32⟩
  | 49 => ⟨S_, .i32⟩
  | 50 => ⟨S8x2048x64, .f32⟩
  | 51 => ⟨S8x2048x64, .f32⟩
  | 52 => ⟨S_, .i32⟩
  | 53 => ⟨S_, .i1⟩
  | 54 => ⟨S8x2048x128, .f32⟩
  | 55 => ⟨S8x2048x128, .f32⟩
  | 56 => ⟨S8x2048x64, .f32⟩
  | 57 => ⟨S8x2048x64, .f32⟩
  | 58 => ⟨S1x1x64, .f32⟩
  | 59 => ⟨S8x2048x64, .f32⟩
  | 60 => ⟨S8x2048x64, .f32⟩
  | 61 => ⟨S1x1x64, .f32⟩
  | 62 => ⟨S8x2048x64, .f32⟩
  | 63 => ⟨S8x2048x64, .f32⟩
  | 64 => ⟨S8x2048x64, .f32⟩
  | 65 => ⟨S8x2048x64, .f32⟩
  | 66 => ⟨S_, .f32⟩
  | 67 => ⟨S8x2048x64, .f32⟩
  | 68 => ⟨S8x2048x64, .f32⟩
  | 69 => ⟨S_, .f32⟩
  | 70 => ⟨S8x2048x64, .f32⟩
  | 71 => ⟨S8x2048x64, .f32⟩
  | 72 => ⟨S8x2048x64, .f32⟩
  | 73 => ⟨S8x2048x64, .f32⟩
  | 74 => ⟨S1x1x64, .f32⟩
  | 75 => ⟨S8x2048x64, .f32⟩
  | 76 => ⟨S8x2048x64, .f32⟩
  | 77 => ⟨S1x1x64, .f32⟩
  | 78 => ⟨S8x2048x64, .f32⟩
  | 79 => ⟨S8x2048x64, .f32⟩
  | 80 => ⟨S8x2048x64, .f32⟩
  | 81 => ⟨S8x2048x64, .f32⟩
  | 82 => ⟨S_, .f32⟩
  | 83 => ⟨S8x2048x64, .f32⟩
  | 84 => ⟨S8x2048x64, .f32⟩
  | 85 => ⟨S_, .f32⟩
  | 86 => ⟨S8x2048x64, .f32⟩
  | 87 => ⟨S8x2048x64, .f32⟩
  | 88 => ⟨S8x2048x64, .f32⟩
  | 89 => ⟨S1x1x64, .f32⟩
  | 90 => ⟨S8x2048x64, .f32⟩
  | 91 => ⟨S8x2048x64, .f32⟩
  | 92 => ⟨S1x1x64, .f32⟩
  | 93 => ⟨S8x2048x64, .f32⟩
  | 94 => ⟨S8x2048x64, .f32⟩
  | 95 => ⟨S8x2048x64, .f32⟩
  | 96 => ⟨S8x2048x64, .f32⟩
  | 97 => ⟨S8x2048x64, .f32⟩
  | 98 => ⟨S8x2048x64, .f32⟩
  | 99 => ⟨S1x1x64, .f32⟩
  | 100 => ⟨S8x2048x64, .f32⟩
  | 101 => ⟨S8x2048x64, .f32⟩
  | 102 => ⟨S1x1x64, .f32⟩
  | 103 => ⟨S8x2048x64, .f32⟩
  | 104 => ⟨S8x2048x64, .f32⟩
  | 105 => ⟨S8x2048x64, .f32⟩
  | 106 => ⟨S8x2048x64, .f32⟩
  | 107 => ⟨S_, .f32⟩
  | 108 => ⟨S8x2048x64, .f32⟩
  | 109 => ⟨S8x2048x64, .f32⟩
  | 110 => ⟨S_, .f32⟩
  | 111 => ⟨S8x2048x64, .f32⟩
  | 112 => ⟨S8x2048x64, .f32⟩
  | 113 => ⟨S8x2048x64, .f32⟩
  | 114 => ⟨S8x2048x64, .f32⟩
  | 115 => ⟨S_, .i32⟩
  | 116 => ⟨S_, .i32⟩
  | 117 => ⟨S8x1x64, .f32⟩
  | 118 => ⟨S8x64, .f32⟩
  | 119 => ⟨S8x64, .f32⟩
  | 120 => ⟨S1x64, .f32⟩
  | 121 => ⟨S8x64, .f32⟩
  | 122 => ⟨S8x64, .f32⟩
  | 123 => ⟨S8x64, .f32⟩
  | 124 => ⟨S8x64, .f32⟩
  | 125 => ⟨S1x64, .f32⟩
  | 126 => ⟨S8x64, .f32⟩
  | 127 => ⟨S8x64, .f32⟩
  | _ => ⟨S8x2048x64, .f32⟩

abbrev hbmTy0_1 (i : Nat) : BufTy := match i % 128 with
  | 0 => ⟨S_, .f32⟩
  | 1 => ⟨S8x64, .f32⟩
  | 2 => ⟨S8x64, .f32⟩
  | 3 => ⟨S8x64, .f32⟩
  | 4 => ⟨S1x64, .f32⟩
  | 5 => ⟨S8x64, .f32⟩
  | 6 => ⟨S8x64, .f32⟩
  | 7 => ⟨S8x64, .f32⟩
  | 8 => ⟨S8x64, .f32⟩
  | 9 => ⟨S1x64, .f32⟩
  | 10 => ⟨S8x64, .f32⟩
  | 11 => ⟨S8x64, .f32⟩
  | 12 => ⟨S_, .f32⟩
  | 13 => ⟨S8x64, .f32⟩
  | 14 => ⟨S8x64, .f32⟩
  | 15 => ⟨S8x1x64, .f32⟩
  | _ => ⟨S8x2048x64, .f32⟩

abbrev hbmTy (i : Nat) : BufTy := match i / 128 with
  | 0 => hbmTy0_0 i
  | 1 => hbmTy0_1 i
  | _ => ⟨S8x2048x64, .f32⟩

abbrev bufTy : (tb : Table) → Fin (tcTables nBuf tb) → BufTy
  | .hbm, ⟨i, _⟩ => hbmTy i
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_cst_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_1 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_c : Ref sig .tc := ⟨.hbm, 34, rfl⟩
abbrev main_v8_0 : Ref sig .tc := ⟨.hbm, 35, rfl⟩
abbrev main_v8_1 : Ref sig .tc := ⟨.hbm, 36, rfl⟩
abbrev main_v8_2 : Ref sig .tc := ⟨.hbm, 37, rfl⟩
abbrev main_v8_3 : Ref sig .tc := ⟨.hbm, 38, rfl⟩
abbrev main_v8_4 : Ref sig .tc := ⟨.hbm, 39, rfl⟩
abbrev main_v8_5 : Ref sig .tc := ⟨.hbm, 40, rfl⟩
abbrev main_v8_6 : Ref sig .tc := ⟨.hbm, 41, rfl⟩
abbrev main_v8_7 : Ref sig .tc := ⟨.hbm, 42, rfl⟩
abbrev main_v8_8 : Ref sig .tc := ⟨.hbm, 43, rfl⟩
abbrev main_v8_9 : Ref sig .tc := ⟨.hbm, 44, rfl⟩
abbrev main_v8_10 : Ref sig .tc := ⟨.hbm, 45, rfl⟩
abbrev main_v8_11 : Ref sig .tc := ⟨.hbm, 46, rfl⟩
abbrev main_v8_12 : Ref sig .tc := ⟨.hbm, 47, rfl⟩
abbrev main_v8_13 : Ref sig .tc := ⟨.hbm, 48, rfl⟩
abbrev main_v8_14 : Ref sig .tc := ⟨.hbm, 49, rfl⟩
abbrev main_v8_15 : Ref sig .tc := ⟨.hbm, 50, rfl⟩
abbrev main_v8_16 : Ref sig .tc := ⟨.hbm, 51, rfl⟩
abbrev main_while0c_c_19 : Ref sig .tc := ⟨.hbm, 52, rfl⟩
abbrev main_while0c_v32 : Ref sig .tc := ⟨.hbm, 53, rfl⟩
abbrev main_while0b_v32 : Ref sig .tc := ⟨.hbm, 54, rfl⟩
abbrev main_while0b_v33 : Ref sig .tc := ⟨.hbm, 55, rfl⟩
abbrev main_while0b_v34 : Ref sig .tc := ⟨.hbm, 56, rfl⟩
abbrev main_while0b_v35 : Ref sig .tc := ⟨.hbm, 57, rfl⟩
abbrev main_while0b_v36 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_v41 : Ref sig .tc := ⟨.hbm, 63, rfl⟩
abbrev main_while0b_v42 : Ref sig .tc := ⟨.hbm, 64, rfl⟩
abbrev main_while0b_v43 : Ref sig .tc := ⟨.hbm, 65, rfl⟩
abbrev main_while0b_cst_19 : Ref sig .tc := ⟨.hbm, 66, rfl⟩
abbrev main_while0b_v44 : Ref sig .tc := ⟨.hbm, 67, rfl⟩
abbrev main_while0b_v45 : Ref sig .tc := ⟨.hbm, 68, rfl⟩
abbrev main_while0b_cst_20 : Ref sig .tc := ⟨.hbm, 69, rfl⟩
abbrev main_while0b_v46 : Ref sig .tc := ⟨.hbm, 70, rfl⟩
abbrev main_while0b_v47 : Ref sig .tc := ⟨.hbm, 71, rfl⟩
abbrev main_while0b_v48 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_v54 : Ref sig .tc := ⟨.hbm, 78, rfl⟩
abbrev main_while0b_v55 : Ref sig .tc := ⟨.hbm, 79, rfl⟩
abbrev main_while0b_v56 : Ref sig .tc := ⟨.hbm, 80, rfl⟩
abbrev main_while0b_v57 : Ref sig .tc := ⟨.hbm, 81, rfl⟩
abbrev main_while0b_cst_21 : Ref sig .tc := ⟨.hbm, 82, rfl⟩
abbrev main_while0b_v58 : Ref sig .tc := ⟨.hbm, 83, rfl⟩
abbrev main_while0b_v59 : Ref sig .tc := ⟨.hbm, 84, rfl⟩
abbrev main_while0b_cst_22 : Ref sig .tc := ⟨.hbm, 85, rfl⟩
abbrev main_while0b_v60 : Ref sig .tc := ⟨.hbm, 86, rfl⟩
abbrev main_while0b_v61 : Ref sig .tc := ⟨.hbm, 87, rfl⟩
abbrev main_while0b_v62 : Ref sig .tc := ⟨.hbm, 88, rfl⟩
abbrev main_while0b_v63 : Ref sig .tc := ⟨.hbm, 89, rfl⟩
abbrev main_while0b_v64 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_v69 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_v73 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_cst_23 : Ref sig .tc := ⟨.hbm, 107, rfl⟩
abbrev main_while0b_v81 : Ref sig .tc := ⟨.hbm, 108, rfl⟩
abbrev main_while0b_v82 : Ref sig .tc := ⟨.hbm, 109, rfl⟩
abbrev main_while0b_cst_24 : Ref sig .tc := ⟨.hbm, 110, rfl⟩
abbrev main_while0b_v83 : Ref sig .tc := ⟨.hbm, 111, rfl⟩
abbrev main_while0b_v84 : Ref sig .tc := ⟨.hbm, 112, rfl⟩
abbrev main_while0b_v85 : Ref sig .tc := ⟨.hbm, 113, rfl⟩
abbrev main_while0b_v86 : Ref sig .tc := ⟨.hbm, 114, rfl⟩
abbrev main_while0b_c_25 : Ref sig .tc := ⟨.hbm, 115, rfl⟩
abbrev main_while0b_v87 : Ref sig .tc := ⟨.hbm, 116, rfl⟩
abbrev main_v9 : Ref sig .tc := ⟨.hbm, 117, rfl⟩
abbrev main_v10 : Ref sig .tc := ⟨.hbm, 118, rfl⟩
abbrev main_v11 : Ref sig .tc := ⟨.hbm, 119, rfl⟩
abbrev main_v12 : Ref sig .tc := ⟨.hbm, 120, rfl⟩
abbrev main_v13 : Ref sig .tc := ⟨.hbm, 121, rfl⟩
abbrev main_v14 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_call0_cst : Ref sig .tc := ⟨.hbm, 128, rfl⟩
abbrev main_call0_v0 : Ref sig .tc := ⟨.hbm, 129, rfl⟩
abbrev main_v20 : Ref sig .tc := ⟨.hbm, 130, rfl⟩
abbrev main_v21 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_call1_cst : Ref sig .tc := ⟨.hbm, 140, rfl⟩
abbrev main_call1_v0 : Ref sig .tc := ⟨.hbm, 141, rfl⟩
abbrev main_v30 : Ref sig .tc := ⟨.hbm, 142, rfl⟩
abbrev main_v31 : Ref sig .tc := ⟨.hbm, 143, rfl⟩

abbrev nD : Nat := 1
abbrev τ : Topo := Topo.v7x

variable {F : FTy → Type} [FloatOps F]

abbrev main_while0_count : Scf.Loop 32 := ⟨0#32, 12#32, 1#32⟩
-- ==== Proof.KernelBlock.lean ====
/- What one grid point of the kernel leaves in its output block: the normalised adjacency matrix, the node
   projections, the first step's state, ten steps of the loop, and the head on the first rows. -/
module

public import proofs.«01_k».proof.Proof.Gen.KernelIdeal.Value
public import Idealize.ShloMosaic.Lib.Pipeline.ValueKit
public import Idealize.ShloMosaic.Lib.Pipeline.ReadBack
public import Idealize.ShloMosaic.Lib.VecWindow

@[expose] public section

set_option maxRecDepth 16384

noncomputable section

namespace Cert.KernelIdeal.Enc

open Idealize.ShloMosaic Idealize.ShloMosaic.TcCoe Idealize.ShloMosaic.Tactic
open Idealize.SL.Sem
open Cert.KernelIdeal.Gen

variable {F : FTy → Type} [FloatOps F]

/-- The state buffer (hidden and cell state side by side) after `k` trips of the loop, from what it held at entry:
    every trip applies the same step to what the trip before left. -/
def stateAt (A : Vec F S2048x2048 .bf16) (W : Vec F S64x256 .f32) (Z : Vec F S2048x256 .f32) (H0 : Vec F S2048x128 .bf16) :
    ℕ → Vec F S2048x128 .bf16
  | 0 => H0
  | k + 1 => k0_pay9 A (stateAt A W Z H0 k) W Z

/-- The state after the first step and the loop. -/
def lastState (x0 : Vec F S1x2048x2048 .f32) (x1 : Vec F S1x2048x64 .f32) (x2 : Vec F S64x256 .f32) (x3 : Vec F S64x256 .f32)
    (x4 : Vec F S1x256 .f32) : Vec F S2048x128 .bf16 :=
  stateAt (k0_pay3 x0) x2 (k0_pay4 x0 x1 x3 x4)
    (k0_pay8 (k0_pay5 (k0_pay4 x0 x1 x3 x4)) (k0_pay6 (k0_pay4 x0 x1 x3 x4)) k0_pay7) 10

/-- The first eight rows of the normalised adjacency matrix. -/
def topRows (x0 : Vec F S1x2048x2048 .f32) : Vec F S8x2048 .bf16 :=
  View.ld (Val := Elt F) (S := S2048x2048) (e' := .bf16) (k0_pay3 x0) (Rect.unit ![0, 0] ![8, 2048] inb_S2048x2048_S8x2048_0_0)

/-- The first eight rows of the node projections. -/
def topProj (x0 : Vec F S1x2048x2048 .f32) (x1 : Vec F S1x2048x64 .f32) (x3 : Vec F S64x256 .f32) (x4 : Vec F S1x256 .f32) :
    Vec F S8x256 .f32 :=
  View.ld (Val := Elt F) (S := S2048x256) (e' := .f32) (k0_pay4 x0 x1 x3 x4) (Rect.unit ![0, 0] ![8, 256] inb_S2048x256_S8x256_0_0)

/-- The last step on the first rows and the head, from the state the loop leaves. -/
def headOut (A : Vec F S8x2048 .bf16) (x2 : Vec F S64x256 .f32) (Z : Vec F S8x256 .f32) (x5 : Vec F S64x64 .f32) (x6 : Vec F S1x64 .f32)
    (x7 : Vec F S64x64 .f32) (x8 : Vec F S1x64 .f32) (x9 : Vec F S64x64 .f32) (x10 : Vec F S1x64 .f32) (x11 : Vec F S64x64 .f32)
    (x12 : Vec F S1x64 .f32) (S : Vec F S2048x128 .bf16) : Vec F S1x1x64 .f32 :=
  k0_pay1 (k0_pay15 (k0_pay11 A S) (k0_pay12 A S x2 Z) (k0_pay13 A S x2 Z) k0_pay14 x5 x6 x7 x8 x9 x10) x11 x12

/-- What a grid point computes from its thirteen input blocks. -/
def blockOut (x0 : Vec F S1x2048x2048 .f32) (x1 : Vec F S1x2048x64 .f32) (x2 : Vec F S64x256 .f32) (x3 : Vec F S64x256 .f32)
    (x4 : Vec F S1x256 .f32) (x5 : Vec F S64x64 .f32) (x6 : Vec F S1x64 .f32) (x7 : Vec F S64x64 .f32) (x8 : Vec F S1x64 .f32)
    (x9 : Vec F S64x64 .f32) (x10 : Vec F S1x64 .f32) (x11 : Vec F S64x64 .f32) (x12 : Vec F S1x64 .f32) : Vec F S1x1x64 .f32 :=
  headOut (topRows x0) x2 (topProj x0 x1 x3 x4) x5 x6 x7 x8 x9 x10 x11 x12 (lastState x0 x1 x2 x3 x4)

section Loop

variable (𝒱 : Variants) (c : Dev nD) (bd : Option 𝒱.V) (i : grid0.Coords)
  (arg1 : Memref sig .tc .vmem S1x2048x2048 .f32) (harg1 : arg1.IsWhole)
  (arg2 : Memref sig .tc .vmem S1x2048x64 .f32) (harg2 : arg2.IsWhole)
  (arg3 : Memref sig .tc .vmem S64x256 .f32) (harg3 : arg3.IsWhole)
  (arg4 : Memref sig .tc .vmem S64x256 .f32) (harg4 : arg4.IsWhole)
  (arg5 : Memref sig .tc .vmem S1x256 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S64x64 .f32) (harg8 : arg8.IsWhole)
  (arg9 : Memref sig .tc .vmem S1x64 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S1x1x64 .f32) (harg14 : arg14.IsWhole)
  (arg15 : Memref sig .tc .vmem S2048x2048 .bf16) (harg15 : arg15.IsWhole)
  (arg16 : Memref sig .tc .vmem S2048x256 .f32) (harg16 : arg16.IsWhole)
  (arg17 : Memref sig .tc .vmem S2048x128 .bf16) (harg17 : arg17.IsWhole)
  (v29 : FVec F S2048x256 .f32) (v32 : FVec F S2048x64 .f32) (v33 : FVec F S2048x64 .f32)
  (X_arg3 : BufTy.Contents (Elt F) arg3.view.ty) (X_arg15 : BufTy.Contents (Elt F) arg15.view.ty) (X_arg16 : BufTy.Contents (Elt F) arg16.view.ty)

/-- One trip stores the whole state buffer once: the step applied to what it read. -/
theorem tripL_eq (k : Fin k0_t1_loop.trips) (f : BufTy.Contents (Elt F) arg17.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v32 v33 X_arg3 X_arg15 X_arg16 k f
      = [⟨Rect.unit ![0, 0] ![2048, 128] inb_S2048x128_S2048x128_0_0,
          k0_pay9 (arg15.view.read (Elt F) X_arg15) (arg17.view.read (Elt F) f) (arg3.view.read (Elt F) X_arg3)
            (arg16.view.read (Elt F) X_arg16)⟩] := by
  unfold tripL_k0_t1 trip_k0_t1
  dsimp only
  sl_unfold_words
  simp (disch := decide) only [View.readAt_eq_ld, View.ld_unit_lit]

/-- The state buffer read after `k` trips is the step applied `k` times. -/
theorem read_loop (G : BufTy.Contents (Elt F) arg17.view.ty) (k : ℕ) (hk : k ≤ k0_t1_loop.trips) :
    arg17.view.read (Elt F) (arg17.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v32 v33 X_arg3 X_arg15 X_arg16 G k))
      = stateAt (arg15.view.read (Elt F) X_arg15) (arg3.view.read (Elt F) X_arg3) (arg16.view.read (Elt F) X_arg16)
          (arg17.view.read (Elt F) G) k := by
  induction k with
  | zero => rfl
  | succ k ih =>
    have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v32 v33 X_arg3 X_arg15 X_arg16 G ⟨k, hk⟩
    dsimp only at h
    rw [h, tripL_eq, ih (Nat.le_of_succ_le hk)]
    exact View.read_writes_full arg17.view G inb_S2048x128_S2048x128_0_0 _ _

end Loop

/-- A covered load of the whole after two runs of stores reads the later run over what the earlier one left. -/
theorem readCov_append {sig : RefSig} {κ : Kind} {sp : Space} {s : Shape} {e : EltTy} (v : View sig κ sp s e)
    (L L' : List (View.Piece (Elt F) s e)) (r : Rect s) :
    v.readCov (L ++ L') r.toLoadRect = View.ld (v.read (Elt F) (v.writes (Elt F) (v.writes (Elt F) v.junk L') L)) r := by
  rw [← View.writes_append]; rfl

/-- The same for the kernel's own scratch buffers, after all ten trips. -/
theorem read_scratch (c : Dev nD) (t : Fin cfg0.N) (v29 : FVec F S2048x256 .f32) (v32 v33 : FVec F S2048x64 .f32)
    (X3 : BufTy.Contents (Elt F) (ms0_2 t).view.ty) (X15 : BufTy.Contents (Elt F) scM0_0.view.ty)
    (X16 : BufTy.Contents (Elt F) scM0_1.view.ty) (G : BufTy.Contents (Elt F) scM0_2.view.ty) :
    View.read (Elt F) (View.whole cc0_scratch2) ((View.whole cc0_scratch2).writes (Elt F) G
        (pb_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) v29 v32 v33 X3 X15 X16 G (Scf.trips (0#32) (Scalar.addi 0#32 10#32) 1#32)))
      = stateAt (scM0_0.view.read (Elt F) X15) ((ms0_2 t).view.read (Elt F) X3) (scM0_1.view.read (Elt F) X16)
          (View.read (Elt F) (View.whole cc0_scratch2) G) 10 := by
  rw [show Scf.trips (0#32) (Scalar.addi 0#32 10#32) 1#32 = 10 by decide]
  exact read_loop Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) v29 v32 v33 X3 X15 X16 G 10 (by decide)

variable (m : (ℓ : Loc nD τ sig) → Buf (Elt F) ℓ)

set_option maxHeartbeats 400000 in
/-- The block a grid point leaves is `blockOut` of its input blocks. -/
theorem outs_eq (c : Dev nD) (t : Fin cfg0.N) :
    outsAt0 m c t = blockOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) := by
  unfold outsAt0
  frame_out
  simp (disch := decide) only [readCov_append, View.readCov_fill, View.ld_unit_lit]
  refine congrArg (headOut (topRows (iblk m c 0 t)) (iblk m c 2 t) (topProj (iblk m c 0 t) (iblk m c 1 t) (iblk m c 3 t) (iblk m c 4 t))
    (iblk m c 5 t) (iblk m c 6 t) (iblk m c 7 t) (iblk m c 8 t) (iblk m c 9 t) (iblk m c 10 t) (iblk m c 11 t) (iblk m c 12 t)) ?_
  refine (read_scratch ..).trans ?_
  have h1 : View.read (Elt F) scM0_0.view = View.read (Elt F) (View.whole cc0_scratch0) := rfl
  have h2 : View.read (Elt F) scM0_1.view = View.read (Elt F) (View.whole cc0_scratch1) := rfl
  rw [h1, h2, (hs0_2 t).read_unread]
  erw [View.read_writes_full _ _ inb_S2048x2048_S2048x2048_0_0,
    View.read_writes_full _ _ inb_S2048x256_S2048x256_0_0, View.read_writes_full _ _ inb_S2048x128_S2048x128_0_0]
  rfl

end Cert.KernelIdeal.Enc

end
-- ==== Proof.Math.lean ====
/- The arithmetic of one step of the tree-LSTM encoder over the extended reals, free of any program: the gates through a
   halved hyperbolic tangent and through the logistic function, the halved weights, and the step both ways. -/
module

public import Idealize.ShloMosaic.PureOps.Ideal
public import Mathlib.Data.EReal.Operations
public import Mathlib.Analysis.SpecialFunctions.Trigonometric.DerivHyp

@[expose] public section

noncomputable section

namespace Cert.Enc

open Idealize.ShloMosaic
open scoped BigOperators

/-- One half. -/
def half : EReal := ((1 / 2 : ℝ) : EReal)

theorem half_nonneg : 0 ≤ half := by unfold half; exact_mod_cast (by norm_num : (0 : ℝ) ≤ 1 / 2)
theorem half_ne_top : half ≠ ⊤ := EReal.coe_ne_top _

/-! ## The gates -/

/-- A gate as the kernel computes it, from the tangent of its (already halved) argument. -/
def gate (t : EReal) : EReal := half * Ideal.tanh t + half

/-- A gate as the reference computes it: the logistic function. -/
def logistic (z : EReal) : EReal := Ideal.div 1 (1 + Ideal.exp (-z))

/-- On a real number, half the tangent of the half plus one half is the logistic function. -/
theorem real_gate (r : ℝ) : 1 / 2 * Real.tanh (1 / 2 * r) + 1 / 2 = 1 * (1 + Real.exp (-r))⁻¹ := by
  have h1 : Real.exp (1 / 2 * r) ≠ 0 := (Real.exp_pos _).ne'
  have h2 : Real.exp (-r) = (Real.exp (1 / 2 * r))⁻¹ * (Real.exp (1 / 2 * r))⁻¹ := by
    rw [← Real.exp_neg, ← Real.exp_add]; congr 1; ring
  have h3 : (0 : ℝ) < Real.exp (1 / 2 * r) := Real.exp_pos _
  rw [Real.tanh_eq_sinh_div_cosh, Real.sinh_eq, Real.cosh_eq, h2, Real.exp_neg]
  generalize Real.exp (1 / 2 * r) = e at *
  have : e ^ 2 + 1 ≠ 0 := by positivity
  field_simp
  ring

/-- The kernel's gate of the halved argument is the logistic function, at the infinities too. -/
theorem gate_half (z : EReal) : gate (half * z) = logistic z := by
  unfold gate logistic half
  induction z with
  | bot =>
    rw [EReal.coe_mul_bot_of_pos (by norm_num), Ideal.tanh_bot, EReal.neg_bot, Ideal.exp_top,
      EReal.add_top_of_ne_bot (x := 1) (EReal.coe_ne_bot 1), Ideal.div, if_neg EReal.top_ne_zero, EReal.inv_top, mul_zero]
    have h : ((1 / 2 * (-1) + 1 / 2 : ℝ) : EReal) = ((0 : ℝ) : EReal) := congrArg _ (by norm_num)
    rwa [EReal.coe_add, EReal.coe_mul, EReal.coe_neg] at h
  | top =>
    rw [EReal.coe_mul_top_of_pos (by norm_num), Ideal.tanh_top, EReal.neg_top, Ideal.exp_bot, add_zero, Ideal.div,
      if_neg one_ne_zero, mul_one, one_mul]
    have h : ((1 / 2 + 1 / 2 : ℝ) : EReal) = ((1⁻¹ : ℝ) : EReal) := congrArg _ (by norm_num)
    rwa [EReal.coe_add, EReal.coe_inv] at h
  | coe r =>
    have hp : ((1 + Real.exp (-r) : ℝ) : EReal) ≠ 0 := by
      have : (0 : ℝ) < 1 + Real.exp (-r) := by positivity
      exact_mod_cast this.ne'
    have h1 : (1 : EReal) + ((Real.exp (-r) : ℝ) : EReal) = ((1 + Real.exp (-r) : ℝ) : EReal) := by
      rw [EReal.coe_add, EReal.coe_one]
    rw [← EReal.coe_mul, ← EReal.coe_neg, Ideal.tanh_coe, Ideal.exp_coe, h1, Ideal.div, if_neg hp, ← EReal.coe_inv,
      ← EReal.coe_one, ← EReal.coe_mul, ← EReal.coe_mul, ← EReal.coe_add, real_gate]

/-! ## Sums -/

/-- A finite non-negative constant goes into a finite sum. -/
theorem mul_sum {ι : Type} (s : Finset ι) (f : ι → EReal) (a : EReal) (h0 : 0 ≤ a) (ht : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-! ## The columns of the fused gate weights -/

/-- Column `j` of the forget gate's part. -/
def cF (j : Fin 64) : Fin 256 := ⟨j.val, by omega⟩
/-- Column `j` of the input gate's part. -/
def cI (j : Fin 64) : Fin 256 := ⟨64 + j.val, by omega⟩
/-- Column `j` of the update's part. -/
def cU (j : Fin 64) : Fin 256 := ⟨128 + j.val, by omega⟩
/-- Column `j` of the output gate's part. -/
def cO (j : Fin 64) : Fin 256 := ⟨192 + j.val, by omega⟩
/-- Entry `j` of the first half (of a state row, or of a weight's rows). -/
def lo (j : Fin 64) : Fin 128 := ⟨j.val, by omega⟩
/-- Entry `j` of the second half. -/
def hi (j : Fin 64) : Fin 128 := ⟨64 + j.val, by omega⟩

/-! ## One step, as the kernel computes it -/

/-- The node projection of one row: the aggregated embeddings times the lower half of the weights, plus the bias. -/
def proj (a : Fin 2048 → EReal) (x : Fin 2048 → Fin 64 → EReal) (WX : Fin 64 → Fin 256 → EReal) (bg : Fin 256 → EReal)
    (g : Fin 256) : EReal := (∑ d, (∑ m, a m * x m d) * WX d g) + bg g

/-- The pre-activations of one row: the aggregated hidden state times the upper half of the weights, plus the projection. -/
def preact (a : Fin 2048 → EReal) (h : Fin 2048 → Fin 64 → EReal) (WH : Fin 64 → Fin 256 → EReal) (z : Fin 256 → EReal)
    (g : Fin 256) : EReal := (∑ d, (∑ m, a m * h m d) * WH d g) + z g

/-- One row aggregated. -/
def agg (a : Fin 2048 → EReal) (c : Fin 2048 → Fin 64 → EReal) (j : Fin 64) : EReal := ∑ m, a m * c m j

/-- The new cell state of one row, from its pre-activations and its aggregated cell state. -/
def cellC (z : Fin 256 → EReal) (cs : Fin 64 → EReal) (j : Fin 64) : EReal :=
  gate (z (cI j)) * Ideal.tanh (z (cU j)) + gate (z (cF j)) * cs j

/-- The new hidden state of one row. -/
def cellH (z : Fin 256 → EReal) (cs : Fin 64 → EReal) (j : Fin 64) : EReal := gate (z (cO j)) * Ideal.tanh (cellC z cs j)

/-! ## One step, as the reference computes it -/

/-- The weights and biases of one gate. -/
structure Gate where
  /-- the weights: the first 64 rows meet the hidden state, the others the embedding -/
  W : Fin 128 → Fin 64 → EReal
  /-- the weights' bias -/
  b₁ : Fin 64 → EReal
  /-- the gate's bias -/
  b₂ : Fin 64 → EReal

/-- The hidden state and the embedding side by side. -/
def cat (h x : Fin 2048 → Fin 64 → EReal) (m : Fin 2048) (k : Fin 128) : EReal :=
  if hk : k.val < 64 then h m ⟨k.val, hk⟩ else x m ⟨k.val - 64, by omega⟩

/-- A gate's pre-activation of one row. -/
def Gate.pre (G : Gate) (a : Fin 2048 → EReal) (h x : Fin 2048 → Fin 64 → EReal) (j : Fin 64) : EReal :=
  (∑ k, (∑ m, a m * cat h x m k) * G.W k j) + G.b₁ j + G.b₂ j

/-- The new cell state of one row. -/
def refC (Gf Gi Gu : Gate) (a : Fin 2048 → EReal) (h c x : Fin 2048 → Fin 64 → EReal) (j : Fin 64) : EReal :=
  logistic (Gi.pre a h x j) * Ideal.tanh (Gu.pre a h x j) + logistic (Gf.pre a h x j) * agg a c j

/-- The new hidden state of one row. -/
def refH (Gf Gi Gu Go : Gate) (a : Fin 2048 → EReal) (h c x : Fin 2048 → Fin 64 → EReal) (j : Fin 64) : EReal :=
  logistic (Go.pre a h x j) * Ideal.tanh (refC Gf Gi Gu a h c x j)

/-- Column `g` of the fused weights holds column `j` of gate `G`, scaled by `s`. -/
def Scaled (s : EReal) (G : Gate) (WH WX : Fin 64 → Fin 256 → EReal) (bg : Fin 256 → EReal) (g : Fin 256) (j : Fin 64) : Prop :=
  (∀ d, WH d g = s * G.W (lo d) j) ∧ (∀ d, WX d g = s * G.W (hi d) j) ∧ bg g = s * (G.b₁ j + G.b₂ j)

/-- A row of the fused weights scaled by `s` gives the gate's pre-activation scaled by `s`. -/
theorem preact_eq {s : EReal} (h0 : 0 ≤ s) (ht : s ≠ ⊤) {G : Gate} {WH WX : Fin 64 → Fin 256 → EReal} {bg : Fin 256 → EReal}
    {g : Fin 256} {j : Fin 64} (hs : Scaled s G WH WX bg g j) (a : Fin 2048 → EReal) (h x : Fin 2048 → Fin 64 → EReal) :
    preact a h WH (proj a x WX bg) g = s * G.pre a h x j := by
  obtain ⟨hH, hX, hb⟩ := hs
  have hlo : ∀ m (d : Fin 64), cat h x m (Fin.castAdd 64 d) = h m d := fun m d => dif_pos d.isLt
  have hhi : ∀ m (d : Fin 64), cat h x m (Fin.natAdd 64 d) = x m d := fun m d => by
    unfold cat
    rw [dif_neg (by simp)]
    exact congrArg (x m) (Fin.ext (by simp))
  unfold preact proj Gate.pre
  rw [add_assoc (∑ k, (∑ m, a m * cat h x m k) * G.W k j), EReal.left_distrib_of_nonneg_of_ne_top h0 ht,
    show (∑ k, (∑ m, a m * cat h x m k) * G.W k j) = _ from Fin.sum_univ_add (a := 64) (b := 64) _,
    EReal.left_distrib_of_nonneg_of_ne_top h0 ht, mul_sum _ _ _ h0 ht, mul_sum _ _ _ h0 ht, hb, add_assoc]
  simp only [hlo, hhi, hH, hX]
  refine congrArg₂ _ (Finset.sum_congr rfl fun d _ => mul_left_comm ..) (congrArg (· + _) (Finset.sum_congr rfl fun d _ => mul_left_comm ..))

/-- The fused weights hold the four gates: the three logistic gates halved, the update as it is. -/
structure Fused (Gf Gi Gu Go : Gate) (WH WX : Fin 64 → Fin 256 → EReal) (bg : Fin 256 → EReal) : Prop where
  f : ∀ j, Scaled half Gf WH WX bg (cF j) j
  i : ∀ j, Scaled half Gi WH WX bg (cI j) j
  u : ∀ j, Scaled 1 Gu WH WX bg (cU j) j
  o : ∀ j, Scaled half Go WH WX bg (cO j) j

section Step

variable {Gf Gi Gu Go : Gate} {WH WX : Fin 64 → Fin 256 → EReal} {bg : Fin 256 → EReal} (F : Fused Gf Gi Gu Go WH WX bg)
include F

/-- The kernel's new cell state is the reference's. -/
theorem cellC_eq (a : Fin 2048 → EReal) (h c x : Fin 2048 → Fin 64 → EReal) (j : Fin 64) :
    cellC (preact a h WH (proj a x WX bg)) (agg a c) j = refC Gf Gi Gu a h c x j := by
  unfold cellC refC
  rw [preact_eq half_nonneg half_ne_top (F.i j), preact_eq half_nonneg half_ne_top (F.f j),
    preact_eq zero_le_one (EReal.coe_ne_top 1) (F.u j), gate_half, gate_half, one_mul]

/-- The kernel's new hidden state is the reference's. -/
theorem cellH_eq (a : Fin 2048 → EReal) (h c x : Fin 2048 → Fin 64 → EReal) (j : Fin 64) :
    cellH (preact a h WH (proj a x WX bg)) (agg a c) j = refH Gf Gi Gu Go a h c x j := by
  unfold cellH refH
  rw [preact_eq half_nonneg half_ne_top (F.o j), gate_half, cellC_eq F]

end Step

/-! ## The first step -/

/-- From a zero hidden state the pre-activations are the projection. -/
theorem preact_zero (a : Fin 2048 → EReal) (WH : Fin 64 → Fin 256 → EReal) (z : Fin 256 → EReal) :
    preact a (fun _ _ => 0) WH z = z := by
  funext g; simp [preact]

/-- A zero cell state aggregates to zero. -/
theorem agg_zero (a : Fin 2048 → EReal) : agg a (fun _ _ => 0) = fun _ => 0 := by funext j; simp [agg]

/-! ## The normalised adjacency -/

/-- Dividing by a non-zero number is multiplying by its reciprocal. -/
theorem mul_recip {d : EReal} (hd : d ≠ 0) (x : EReal) : x * Ideal.div 1 d = Ideal.div x d := by
  simp [Ideal.div, hd]

/-! ## The steps iterated -/

/-- Hidden and cell state after `k` steps of the reference, from zero. -/
def refState (Gf Gi Gu Go : Gate) (A : Fin 2048 → Fin 2048 → EReal) (x : Fin 2048 → Fin 64 → EReal) :
    ℕ → (Fin 2048 → Fin 64 → EReal) × (Fin 2048 → Fin 64 → EReal)
  | 0 => (fun _ _ => 0, fun _ _ => 0)
  | k + 1 =>
    let s := refState Gf Gi Gu Go A x k
    (fun n => refH Gf Gi Gu Go (A n) s.1 s.2 x, fun n => refC Gf Gi Gu (A n) s.1 s.2 x)

/-! ## The head -/

/-- A dense layer. -/
def dense (W : Fin 64 → Fin 64 → EReal) (b : Fin 64 → EReal) (v : Fin 64 → EReal) (j : Fin 64) : EReal :=
  (∑ k, v k * W k j) + b j

/-- The head: a tangent branch and a rectified two-layer branch, added, then a rectified layer. -/
def head (W₁ : Fin 64 → Fin 64 → EReal) (b₁ : Fin 64 → EReal) (W₂ : Fin 64 → Fin 64 → EReal) (b₂ : Fin 64 → EReal)
    (W₃ : Fin 64 → Fin 64 → EReal) (b₃ : Fin 64 → EReal) (W₄ : Fin 64 → Fin 64 → EReal) (b₄ : Fin 64 → EReal)
    (v : Fin 64 → EReal) (j : Fin 64) : EReal :=
  max (dense W₄ b₄ (fun k => Ideal.tanh (dense W₁ b₁ v k) + dense W₃ b₃ (fun l => max (dense W₂ b₂ v l) 0) k) j) 0

end Cert.Enc

end
-- ==== Proof.Consts.lean ====
/- The one literal the proof has to read: one half. -/
module

public import proofs.«01_k».proof.Proof.Math

@[expose] public section

namespace Cert.Enc

open Idealize.ShloMosaic

/-- The 32-bit pattern of one half. -/
theorem ofBits_half : Ideal.ofBits .f32 0x3F000000#32 = half := by
  simp [Ideal.ofBits, Ideal.ieee, half, -EReal.coe_mul]
  norm_num

end Cert.Enc
-- ==== Proof.KernelValue.lean ====
/- What the kernel's block program computes over the extended reals, read at an index. -/
module

public import proofs.«01_k».proof.Proof.KernelBlock
public import proofs.«01_k».proof.Proof.Consts
public import Idealize.ShloMosaic.Lib.Pointwise

@[expose] public section

set_option maxRecDepth 16384

noncomputable section

namespace Cert.KernelIdeal.Enc

open Idealize.ShloMosaic Idealize.ShloMosaic.TcCoe Idealize.ShloMosaic.Tactic
open Idealize.SL.Sem
open Cert.KernelIdeal.Gen Cert.Enc

/-- The normalised adjacency matrix of a block: every entry times the reciprocal of its row's sum plus the guard. -/
def adjK (x0 : Vec Ideal S1x2048x2048 .f32) (n m : Fin 2048) : EReal :=
  x0 (ix3 0 n m) * Ideal.div 1 (∑ k, x0 (ix3 0 n k) + Ideal.ofBits .f32 0x358637BD#32)

theorem pay3_at (x0 : Vec Ideal S1x2048x2048 .f32) (n m : Fin 2048) : k0_pay3 x0 (ix2 n m) = adjK x0 n m := by
  unfold k0_pay3 k0_pay2
  pointwise
  rfl

/-- The node projection of a block. -/
theorem pay4_at (x0 : Vec Ideal S1x2048x2048 .f32) (x1 : Vec Ideal S1x2048x64 .f32) (x3 : Vec Ideal S64x256 .f32)
    (x4 : Vec Ideal S1x256 .f32) (n : Fin 2048) (g : Fin 256) :
    k0_pay4 x0 x1 x3 x4 (ix2 n g)
      = proj (adjK x0 n) (fun m d => x1 (ix3 0 m d)) (fun d g => x3 (ix2 d g)) (fun g => x4 (ix2 0 g)) g := by
  unfold k0_pay4 k0_pay2
  pointwise
  rfl

/-- The first step's hidden state. -/
theorem pay8_lo (Z : Vec Ideal S2048x256 .f32) (n : Fin 2048) (j : Fin 64) :
    k0_pay8 (k0_pay5 Z) (k0_pay6 Z) k0_pay7 (ix2 n (lo j)) = cellH (fun g => Z (ix2 n g)) (fun _ => 0) j := by
  unfold k0_pay8 k0_pay5 k0_pay6 k0_pay7
  pointwise
  simp only [ofBits_half]
  exact (dif_pos j.isLt).trans rfl

/-- The first step's cell state. -/
theorem pay8_hi (Z : Vec Ideal S2048x256 .f32) (n : Fin 2048) (j : Fin 64) :
    k0_pay8 (k0_pay5 Z) (k0_pay6 Z) k0_pay7 (ix2 n (hi j)) = cellC (fun g => Z (ix2 n g)) (fun _ => 0) j := by
  unfold k0_pay8 k0_pay5 k0_pay6 k0_pay7
  pointwise
  simp only [ofBits_half]
  refine (dif_neg (by simp [hi])).trans ?_
  simp only [show (hi j).val - 64 = j.val from Nat.add_sub_cancel_left ..]
  rfl

/-- One trip's hidden state. -/
theorem pay9_lo (A : Vec Ideal S2048x2048 .bf16) (H : Vec Ideal S2048x128 .bf16) (W : Vec Ideal S64x256 .f32)
    (Z : Vec Ideal S2048x256 .f32) (n : Fin 2048) (j : Fin 64) :
    k0_pay9 A H W Z (ix2 n (lo j))
      = cellH (preact (fun m => A (ix2 n m)) (fun m d => H (ix2 m (lo d))) (fun d g => W (ix2 d g)) (fun g => Z (ix2 n g)))
          (agg (fun m => A (ix2 n m)) (fun m d => H (ix2 m (hi d)))) j := by
  unfold k0_pay9
  pointwise
  simp only [ofBits_half]
  exact (dif_pos j.isLt).trans rfl

/-- One trip's cell state. -/
theorem pay9_hi (A : Vec Ideal S2048x2048 .bf16) (H : Vec Ideal S2048x128 .bf16) (W : Vec Ideal S64x256 .f32)
    (Z : Vec Ideal S2048x256 .f32) (n : Fin 2048) (j : Fin 64) :
    k0_pay9 A H W Z (ix2 n (hi j))
      = cellC (preact (fun m => A (ix2 n m)) (fun m d => H (ix2 m (lo d))) (fun d g => W (ix2 d g)) (fun g => Z (ix2 n g)))
          (agg (fun m => A (ix2 n m)) (fun m d => H (ix2 m (hi d)))) j := by
  unfold k0_pay9
  pointwise
  simp only [ofBits_half]
  refine (dif_neg (by simp [hi])).trans ?_
  simp only [show (hi j).val - 64 = j.val from Nat.add_sub_cancel_left ..]
  rfl

/-- The last step and the head, on the rows they are given: only the first row counts. -/
theorem headOut_at (A : Vec Ideal S8x2048 .bf16) (W : Vec Ideal S64x256 .f32) (Z : Vec Ideal S8x256 .f32)
    (x5 : Vec Ideal S64x64 .f32) (x6 : Vec Ideal S1x64 .f32) (x7 : Vec Ideal S64x64 .f32) (x8 : Vec Ideal S1x64 .f32)
    (x9 : Vec Ideal S64x64 .f32) (x10 : Vec Ideal S1x64 .f32) (x11 : Vec Ideal S64x64 .f32) (x12 : Vec Ideal S1x64 .f32)
    (H : Vec Ideal S2048x128 .bf16) (j : Fin 64) :
    headOut A W Z x5 x6 x7 x8 x9 x10 x11 x12 H (ix3 0 0 j)
      = head (fun k l => x5 (ix2 k l)) (fun l => x6 (ix2 0 l)) (fun k l => x7 (ix2 k l)) (fun l => x8 (ix2 0 l))
          (fun k l => x9 (ix2 k l)) (fun l => x10 (ix2 0 l)) (fun k l => x11 (ix2 k l)) (fun l => x12 (ix2 0 l))
          (cellH (preact (fun m => A (ix2 0 m)) (fun m d => H (ix2 m (lo d))) (fun d g => W (ix2 d g)) (fun g => Z (ix2 0 g)))
            (agg (fun m => A (ix2 0 m)) (fun m d => H (ix2 m (hi d))))) j := by
  unfold headOut k0_pay1 k0_pay15 k0_pay11 k0_pay13 k0_pay14 k0_pay12 k0_pay10
  pointwise
  simp only [ofBits_half]
  rfl

section Block

variable {Gf Gi Gu Go : Gate} (x0 : Vec Ideal S1x2048x2048 .f32) (x1 : Vec Ideal S1x2048x64 .f32)
  (x2 x3 : Vec Ideal S64x256 .f32) (x4 : Vec Ideal S1x256 .f32)
  (F : Fused Gf Gi Gu Go (fun d g => x2 (ix2 d g)) (fun d g => x3 (ix2 d g)) (fun g => x4 (ix2 0 g)))
include F

/-- After the first step and `k` trips the state buffer holds the reference's hidden and cell states after `k + 1` steps. -/
theorem stateAt_eq (k : ℕ) (m : Fin 2048) (j : Fin 64) :
    stateAt (k0_pay3 x0) x2 (k0_pay4 x0 x1 x3 x4)
        (k0_pay8 (k0_pay5 (k0_pay4 x0 x1 x3 x4)) (k0_pay6 (k0_pay4 x0 x1 x3 x4)) k0_pay7) k (ix2 m (lo j))
        = (refState Gf Gi Gu Go (adjK x0) (fun m d => x1 (ix3 0 m d)) (k + 1)).1 m j ∧
      stateAt (k0_pay3 x0) x2 (k0_pay4 x0 x1 x3 x4)
        (k0_pay8 (k0_pay5 (k0_pay4 x0 x1 x3 x4)) (k0_pay6 (k0_pay4 x0 x1 x3 x4)) k0_pay7) k (ix2 m (hi j))
        = (refState Gf Gi Gu Go (adjK x0) (fun m d => x1 (ix3 0 m d)) (k + 1)).2 m j := by
  induction k generalizing m j with
  | zero =>
    simp only [stateAt, pay8_lo, pay8_hi, pay4_at, refState, ← cellH_eq F, ← cellC_eq F, preact_zero, agg_zero, and_self]
  | succ k ih =>
    rw [refState]
    simp only [stateAt, pay9_lo, pay9_hi, fun m j => (ih m j).1, fun m j => (ih m j).2, pay3_at, pay4_at,
      ← cellH_eq F, ← cellC_eq F, and_self]

/-- What one grid point leaves in its output block: the head of the first node's hidden state after twelve steps. -/
theorem blockOut_at (x5 : Vec Ideal S64x64 .f32) (x6 : Vec Ideal S1x64 .f32) (x7 : Vec Ideal S64x64 .f32)
    (x8 : Vec Ideal S1x64 .f32) (x9 : Vec Ideal S64x64 .f32) (x10 : Vec Ideal S1x64 .f32) (x11 : Vec Ideal S64x64 .f32)
    (x12 : Vec Ideal S1x64 .f32) (j : Fin 64) :
    blockOut x0 x1 x2 x3 x4 x5 x6 x7 x8 x9 x10 x11 x12 (ix3 0 0 j)
      = head (fun k l => x5 (ix2 k l)) (fun l => x6 (ix2 0 l)) (fun k l => x7 (ix2 k l)) (fun l => x8 (ix2 0 l))
          (fun k l => x9 (ix2 k l)) (fun l => x10 (ix2 0 l)) (fun k l => x11 (ix2 k l)) (fun l => x12 (ix2 0 l))
          ((refState Gf Gi Gu Go (adjK x0) (fun m d => x1 (ix3 0 m d)) 12).1 0) j := by
  have hA : ∀ m, topRows x0 (ix2 0 m) = adjK x0 0 m := fun m => by
    unfold topRows
    pointwise
    exact pay3_at x0 0 m
  have hZ : ∀ g, topProj x0 x1 x3 x4 (ix2 0 g)
      = proj (adjK x0 0) (fun m d => x1 (ix3 0 m d)) (fun d g => x3 (ix2 d g)) (fun g => x4 (ix2 0 g)) g := fun g => by
    unfold topProj
    pointwise
    exact pay4_at x0 x1 x3 x4 0 g
  unfold blockOut lastState
  rw [headOut_at]
  refine congrArg (head _ _ _ _ _ _ _ _ · j) (funext fun k => ?_)
  rw [refState]
  simp only [hA, hZ, (stateAt_eq x0 x1 x2 x3 x4 F 10 _ _).1, (stateAt_eq x0 x1 x2 x3 x4 F 10 _ _).2, ← cellH_eq F]

end Block

end Cert.KernelIdeal.Enc

end
-- ==== Proof.KernelHost.lean ====
/- What the kernel's host lines hand the region: the fused and scaled gate weights and biases, and the head's biases. -/
module

public import proofs.«01_k».proof.Proof.Gen.KernelIdeal.Frame
public import proofs.«01_k».proof.Proof.Consts
public import Idealize.ShloMosaic.Lib.Pointwise
public import Idealize.ShloMosaic.Lib.StableHlo.ReadAt

@[expose] public section

set_option maxRecDepth 16384

noncomputable section

namespace Cert.KernelIdeal.Enc

open Idealize.ShloMosaic Idealize.ShloMosaic.TcCoe
open Idealize.SL.Sem
open Cert.KernelIdeal Cert.KernelIdeal.Gen Cert.Enc

variable (m : (ℓ : Loc nD τ sig) → Buf (Elt Ideal) ℓ) (c : Dev nD)

/-- Four rows of 64 entries side by side. -/
def pick (f i u o : Fin 64 → EReal) (g : Fin 256) : EReal :=
  if h : g.val < 64 then f ⟨g.val, h⟩
  else if h : g.val - 64 < 64 then i ⟨g.val - 64, h⟩
  else if h : g.val - 64 - 64 < 64 then u ⟨g.val - 64 - 64, h⟩
  else o ⟨g.val - 64 - 64 - 64, by omega⟩

section Pick

variable (f i u o : Fin 64 → EReal) (j : Fin 64)

theorem pick_cF : pick f i u o (cF j) = f j := dif_pos j.isLt

theorem pick_cI : pick f i u o (cI j) = i j := by
  have e : (cI j).val = 64 + j.val := rfl
  unfold pick
  rw [dif_neg (by omega), dif_pos (by omega)]
  exact congrArg i (Fin.ext (by simp only [e]; omega))

theorem pick_cU : pick f i u o (cU j) = u j := by
  have e : (cU j).val = 128 + j.val := rfl
  unfold pick
  rw [dif_neg (by omega), dif_neg (by omega), dif_pos (by omega)]
  exact congrArg u (Fin.ext (by simp only [e]; omega))

theorem pick_cO : pick f i u o (cO j) = o j := by
  have e : (cO j).val = 192 + j.val := rfl
  unfold pick
  rw [dif_neg (by omega), dif_neg (by omega), dif_neg (by omega)]
  exact congrArg o (Fin.ext (by simp only [e]; omega))

end Pick

/-- A gate's weights and biases, read from the arguments that hold them. -/
def gateK (W : Vec Ideal S128x64 .f32) (b₁ b₂ : Vec Ideal S64 .f32) : Gate where
  W := fun k j => W (ix2 k j)
  b₁ := fun j => b₁ (ix1 j)
  b₂ := fun j => b₂ (ix1 j)

/-- The forget gate. -/
def Kf : Gate := gateK (m (c.tc.loc main_arg2)) (m (c.tc.loc main_arg3)) (m (c.tc.loc main_arg4))
/-- The input gate. -/
def Ki : Gate := gateK (m (c.tc.loc main_arg5)) (m (c.tc.loc main_arg6)) (m (c.tc.loc main_arg7))
/-- The update. -/
def Ku : Gate := gateK (m (c.tc.loc main_arg8)) (m (c.tc.loc main_arg9)) (m (c.tc.loc main_arg10))
/-- The output gate. -/
def Ko : Gate := gateK (m (c.tc.loc main_arg11)) (m (c.tc.loc main_arg12)) (m (c.tc.loc main_arg13))

/-- The upper halves of the four gates' weights, three of them halved. -/
theorem V7_at (d : Fin 64) (g : Fin 256) : V m c main_v7 (ix2 d g)
    = pick (fun j => half * (Kf m c).W (lo d) j) (fun j => half * (Ki m c).W (lo d) j)
        (fun j => (Ku m c).W (lo d) j) (fun j => half * (Ko m c).W (lo d) j) g := by
  unfold V
  after_reads_at
  after_reads_at
  simp only [ofBits_half]
  rfl

/-- The lower halves of the four gates' weights, three of them halved. -/
theorem V8_at (d : Fin 64) (g : Fin 256) : V m c main_v8 (ix2 d g)
    = pick (fun j => half * (Kf m c).W (hi d) j) (fun j => half * (Ki m c).W (hi d) j)
        (fun j => (Ku m c).W (hi d) j) (fun j => half * (Ko m c).W (hi d) j) g := by
  unfold V
  after_reads_at
  after_reads_at
  simp only [ofBits_half]
  rfl

/-- The four gates' summed biases, three of them halved. -/
theorem V20_at (g : Fin 256) : V m c main_v20 (ix2 0 g)
    = pick (fun j => half * ((Kf m c).b₁ j + (Kf m c).b₂ j)) (fun j => half * ((Ki m c).b₁ j + (Ki m c).b₂ j))
        (fun j => (Ku m c).b₁ j + (Ku m c).b₂ j) (fun j => half * ((Ko m c).b₁ j + (Ko m c).b₂ j)) g := by
  unfold V
  after_reads_at
  after_reads_at
  simp only [ofBits_half]
  rfl

/-- The fused weights and biases hold the four gates. -/
theorem fused : Fused (Kf m c) (Ki m c) (Ku m c) (Ko m c) (fun d g => V m c main_v7 (ix2 d g))
    (fun d g => V m c main_v8 (ix2 d g)) (fun g => V m c main_v20 (ix2 0 g)) where
  f j := ⟨fun d => (V7_at m c d _).trans (pick_cF ..), fun d => (V8_at m c d _).trans (pick_cF ..), (V20_at m c _).trans (pick_cF ..)⟩
  i j := ⟨fun d => (V7_at m c d _).trans (pick_cI ..), fun d => (V8_at m c d _).trans (pick_cI ..), (V20_at m c _).trans (pick_cI ..)⟩
  u j := ⟨fun d => ((V7_at m c d _).trans (pick_cU ..)).trans (one_mul (_ : EReal)).symm,
    fun d => ((V8_at m c d _).trans (pick_cU ..)).trans (one_mul (_ : EReal)).symm,
    ((V20_at m c _).trans (pick_cU ..)).trans (one_mul (_ : EReal)).symm⟩
  o j := ⟨fun d => (V7_at m c d _).trans (pick_cO ..), fun d => (V8_at m c d _).trans (pick_cO ..), (V20_at m c _).trans (pick_cO ..)⟩

/-- A bias of the head as the row the kernel reads. -/
theorem V21_at (j : Fin 64) : V m c main_v21 (ix2 0 j) = m (c.tc.loc main_arg15) (ix1 j) := by
  unfold V
  after_reads_at
@[inherit_doc V21_at]
theorem V22_at (j : Fin 64) : V m c main_v22 (ix2 0 j) = m (c.tc.loc main_arg17) (ix1 j) := by
  unfold V
  after_reads_at
@[inherit_doc V21_at]
theorem V23_at (j : Fin 64) : V m c main_v23 (ix2 0 j) = m (c.tc.loc main_arg19) (ix1 j) := by
  unfold V
  after_reads_at
@[inherit_doc V21_at]
theorem V24_at (j : Fin 64) : V m c main_v24 (ix2 0 j) = m (c.tc.loc main_arg21) (ix1 j) := by
  unfold V
  after_reads_at

end Cert.KernelIdeal.Enc

end
-- ==== Proof.KernelArray.lean ====
/- What the kernel's result array holds: row `b` is the head of the first node's hidden state of batch entry `b` after
   twelve steps of the tree-LSTM, over the adjacency matrix normalised by reciprocals. -/
module

public import proofs.«01_k».proof.Proof.KernelValue
public import proofs.«01_k».proof.Proof.KernelHost
public import Idealize.ShloMosaic.Lib.Pipeline.ValueKit

@[expose] public section

set_option maxRecDepth 16384

noncomputable section

namespace Cert.KernelIdeal.Enc

open Idealize.ShloMosaic Idealize.ShloMosaic.TcCoe Idealize.ShloMosaic.Tactic
open Idealize.SL.Sem
open Cert.KernelIdeal Cert.KernelIdeal.Gen Cert.Enc

variable (m : (ℓ : Loc nD τ sig) → Buf (Elt Ideal) ℓ) (c : Dev nD)

/-- The batch entry a grid point works on. -/
def bat (t : Fin cfg0.N) : Fin 8 := ⟨t.val, t.isLt.trans_eq N_0⟩

/-! ## The windows' blocks -/

theorem idx0 : ∀ t : Fin cfg0.N, win0_0.index t = ![t.val, 0, 0] := by decide +kernel
theorem idx1 : ∀ t : Fin cfg0.N, win0_1.index t = ![t.val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![t.val, 0, 0] := by decide +kernel

/-- The adjacency block of a grid point is its batch entry's matrix. -/
theorem blk0 (t : Fin cfg0.N) (n k : Fin 2048) : iblk m c 0 t (ix3 0 n k) = m (c.tc.loc main_arg1) (ix3 (bat t) n k) := by
  rw [← V_main_arg1 m c]
  blk_ext [Gen.iblk, idx0 t, bat]

/-- The embedding block of a grid point is its batch entry's embeddings. -/
theorem blk1 (t : Fin cfg0.N) (n : Fin 2048) (d : Fin 64) :
    iblk m c 1 t (ix3 0 n d) = m (c.tc.loc main_arg0) (ix3 (bat t) n d) := by
  rw [← V_main_arg0 m c]
  blk_ext [Gen.iblk, idx1 t, bat]

/-! Every other window stages its whole array at every point. -/

theorem blk2 (t : Fin cfg0.N) (d : Fin 64) (g : Fin 256) : iblk m c 2 t (ix2 d g) = V m c main_v7 (ix2 d g) := by
  blk_ext [Gen.iblk, idx2 t]
theorem blk3 (t : Fin cfg0.N) (d : Fin 64) (g : Fin 256) : iblk m c 3 t (ix2 d g) = V m c main_v8 (ix2 d g) := by
  blk_ext [Gen.iblk, idx3 t]
theorem blk4 (t : Fin cfg0.N) (g : Fin 256) : iblk m c 4 t (ix2 0 g) = V m c main_v20 (ix2 0 g) := by
  blk_ext [Gen.iblk, idx4 t]
theorem blk5 (t : Fin cfg0.N) (k l : Fin 64) : iblk m c 5 t (ix2 k l) = m (c.tc.loc main_arg14) (ix2 k l) := by
  rw [← V_main_arg14 m c]
  blk_ext [Gen.iblk, idx5 t]
theorem blk6 (t : Fin cfg0.N) (l : Fin 64) : iblk m c 6 t (ix2 0 l) = m (c.tc.loc main_arg15) (ix1 l) := by
  rw [← V21_at m c]
  blk_ext [Gen.iblk, idx6 t]
theorem blk7 (t : Fin cfg0.N) (k l : Fin 64) : iblk m c 7 t (ix2 k l) = m (c.tc.loc main_arg16) (ix2 k l) := by
  rw [← V_main_arg16 m c]
  blk_ext [Gen.iblk, idx7 t]
theorem blk8 (t : Fin cfg0.N) (l : Fin 64) : iblk m c 8 t (ix2 0 l) = m (c.tc.loc main_arg17) (ix1 l) := by
  rw [← V22_at m c]
  blk_ext [Gen.iblk, idx8 t]
theorem blk9 (t : Fin cfg0.N) (k l : Fin 64) : iblk m c 9 t (ix2 k l) = m (c.tc.loc main_arg18) (ix2 k l) := by
  rw [← V_main_arg18 m c]
  blk_ext [Gen.iblk, idx9 t]
theorem blk10 (t : Fin cfg0.N) (l : Fin 64) : iblk m c 10 t (ix2 0 l) = m (c.tc.loc main_arg19) (ix1 l) := by
  rw [← V23_at m c]
  blk_ext [Gen.iblk, idx10 t]
theorem blk11 (t : Fin cfg0.N) (k l : Fin 64) : iblk m c 11 t (ix2 k l) = m (c.tc.loc main_arg20) (ix2 k l) := by
  rw [← V_main_arg20 m c]
  blk_ext [Gen.iblk, idx11 t]
theorem blk12 (t : Fin cfg0.N) (l : Fin 64) : iblk m c 12 t (ix2 0 l) = m (c.tc.loc main_arg21) (ix1 l) := by
  rw [← V24_at m c]
  blk_ext [Gen.iblk, idx12 t]

/-! ## The result array -/

/-- The adjacency matrix of a batch entry, every entry times the reciprocal of its row's sum plus the guard. -/
def adjOf (a1 : Vec Ideal S8x2048x2048 .f32) (b : Fin 8) (n k : Fin 2048) : EReal :=
  a1 (ix3 b n k) * Ideal.div 1 (∑ l, a1 (ix3 b n l) + Ideal.ofBits .f32 0x358637BD#32)

/-- The head at the kernel's arguments. -/
def headK : (Fin 64 → EReal) → Fin 64 → EReal :=
  head (fun k l => m (c.tc.loc main_arg14) (ix2 k l)) (fun l => m (c.tc.loc main_arg15) (ix1 l))
    (fun k l => m (c.tc.loc main_arg16) (ix2 k l)) (fun l => m (c.tc.loc main_arg17) (ix1 l))
    (fun k l => m (c.tc.loc main_arg18) (ix2 k l)) (fun l => m (c.tc.loc main_arg19) (ix1 l))
    (fun k l => m (c.tc.loc main_arg20) (ix2 k l)) (fun l => m (c.tc.loc main_arg21) (ix1 l))

/-- Row `b` of the result. -/
def rowOut (b : Fin 8) : Fin 64 → EReal :=
  headK m c ((refState (Kf m c) (Ki m c) (Ku m c) (Ko m c) (adjOf (m (c.tc.loc main_arg1)) b)
    (fun n d => m (c.tc.loc main_arg0) (ix3 b n d)) 12).1 0)

/-- What a grid point leaves in its output block is its row of the result. -/
theorem outs_at (t : Fin cfg0.N) (j : Fin 64) : outsAt0 m c t (ix3 0 0 j) = rowOut m c (bat t) j := by
  have F := fused m c
  simp only [← blk2 m c t, ← blk3 m c t, ← blk4 m c t] at F
  have hA : adjK (iblk m c 0 t) = adjOf (m (c.tc.loc main_arg1)) (bat t) := by
    funext n k
    unfold adjK adjOf
    simp only [blk0]
  rw [outs_eq, blockOut_at _ _ _ _ _ F, hA]
  unfold rowOut headK
  simp only [blk1, blk5, blk6, blk7, blk8, blk9, blk10, blk11, blk12]

/-- The result array, row by row. -/
def result : Vec Ideal S8x1x64 .f32 := fun i => rowOut m c (i 0) (i 2)

/-- The pipeline's result array is that. -/
theorem result_eq : (dats m 0 c).arrAt 13 cfg0.N = result m c := by
  refine (dats m 0 c).arrAt_eq_of_covers 13 (result m c) (by decide +kernel) fun t hf y => ?_
  blk_simp
  rw [after0_13]
  have hy : y = ix3 (0 : Fin 1) (0 : Fin 1) (y 2 : Fin 64) := by
    blk_ext []
  have he : (win0_13.blk t).view.emb y = ix3 (bat t) (0 : Fin 1) (y 2 : Fin 64) := by
    blk_ext [idx13 t, bat]
  rw [he]
  exact (congrArg (outsAt0 m c t) hy).trans (outs_at m c t (y 2))

end Cert.KernelIdeal.Enc

end
-- ==== Proof.RefValue.lean ====
/- What the reference computes over the extended reals, read at an index: the normalised adjacency matrix, one trip of its
   loop, the state after any number of trips, and the head. -/
module

public import proofs.«01_k».proof.Proof.Gen.ReferenceIdeal.Step
public import proofs.«01_k».proof.Proof.Math
public import Idealize.ShloMosaic.Lib.Pointwise

@[expose] public section

set_option maxRecDepth 16384

noncomputable section

namespace Cert.ReferenceIdeal.Enc

open Idealize.ShloMosaic
open Cert.ReferenceIdeal Cert.ReferenceIdeal.Gen Cert.ReferenceIdeal.Step Cert.Enc

/-- A gate's weights and biases, read from their arrays. -/
def gateOf (W : Vec Ideal S128x64 .f32) (b₁ b₂ : Vec Ideal S64 .f32) : Gate where
  W := fun k j => W (ix2 k j)
  b₁ := fun j => b₁ (ix1 j)
  b₂ := fun j => b₂ (ix1 j)

/-- The row sum of an adjacency matrix plus the guard. -/
def rowDen (a1 : Vec Ideal S8x2048x2048 .f32) (b : Fin 8) (n : Fin 2048) : EReal :=
  ∑ k, a1 (ix3 b n k) + Ideal.ofBits .f32 0x358637BD#32

/-- The normalised adjacency matrix: every entry divided by its row's sum plus the guard. -/
theorem adj_at (a1 : Vec Ideal S8x2048x2048 .f32) (b : Fin 8) (n m : Fin 2048) :
    A_main_v5 a1 (ix3 b n m) = Ideal.div (a1 (ix3 b n m)) (rowDen a1 b n) := by
  unfold A_main_v5 A_main_v4 A_main_v3 A_main_v1 A_main_v0 K_main_v2 K_main_cst K_main_cst_0
  pointwise
  rfl

theorem b1_at (j : ℕ) (s : State Ideal) (b : Fin 8) (n : Fin 2048) (k : Fin 128) :
    b1 j s (ix3 b n k) = ∑ m, s.main_v8_1 (ix3 b n m) *
      cat (fun m d => s.main_v8_15 (ix3 b m d)) (fun m d => s.main_v8_0 (ix3 b m d)) m k := by
  unfold b1 b0
  pointwise
  rfl

theorem b2_at (j : ℕ) (s : State Ideal) (b : Fin 8) (n : Fin 2048) (k : Fin 64) :
    b2 j s (ix3 b n k) = agg (fun m => s.main_v8_1 (ix3 b n m)) (fun m d => s.main_v8_16 (ix3 b m d)) k := by
  unfold b2
  pointwise
  rfl

/-- Hidden state, cell state and embeddings of a batch entry in a loop state, and a row of its adjacency matrix. -/
def hOf (s : State Ideal) (b : Fin 8) (m : Fin 2048) (d : Fin 64) : EReal := s.main_v8_15 (ix3 b m d)
@[inherit_doc hOf] def cOf (s : State Ideal) (b : Fin 8) (m : Fin 2048) (d : Fin 64) : EReal := s.main_v8_16 (ix3 b m d)
@[inherit_doc hOf] def xOf (s : State Ideal) (b : Fin 8) (m : Fin 2048) (d : Fin 64) : EReal := s.main_v8_0 (ix3 b m d)
@[inherit_doc hOf] def aOf (s : State Ideal) (b : Fin 8) (n m : Fin 2048) : EReal := s.main_v8_1 (ix3 b n m)

/-- The new cell state of a trip. -/
theorem b43_at (i : ℕ) (s : State Ideal) (b : Fin 8) (n : Fin 2048) (j : Fin 64) :
    b43 i s (ix3 b n j) = refC (gateOf s.main_v8_2 s.main_v8_3 s.main_v8_4) (gateOf s.main_v8_5 s.main_v8_6 s.main_v8_7)
      (gateOf s.main_v8_8 s.main_v8_9 s.main_v8_10) (aOf s b n) (hOf s b) (cOf s b) (xOf s b) j := by
  unfold b43 b42 b41 b40 b39 b38 b37 b36 b35 b34 b33 b32 b31 b30 b29 b28 b27 b26 b25 b24 b23 b22 b21 b20 b19 b18 b17 b16
    b15 b14 b13 b12 b11 b10 b9 b8 b7 b6 b5 b4 b3
  pointwise
  simp only [b1_at, b2_at]
  rfl

/-- The new hidden state of a trip. -/
theorem b60_at (i : ℕ) (s : State Ideal) (b : Fin 8) (n : Fin 2048) (j : Fin 64) :
    b60 i s (ix3 b n j) = refH (gateOf s.main_v8_2 s.main_v8_3 s.main_v8_4) (gateOf s.main_v8_5 s.main_v8_6 s.main_v8_7)
      (gateOf s.main_v8_8 s.main_v8_9 s.main_v8_10) (gateOf s.main_v8_11 s.main_v8_12 s.main_v8_13)
      (aOf s b n) (hOf s b) (cOf s b) (xOf s b) j := by
  unfold b60 b59 b58 b57 b56 b55 b54 b53 b52 b51 b50 b49 b48 b47 b46 b45 b44
  pointwise
  simp only [b1_at, b43_at]
  rfl

/-- The loop's states: `trips s k` is what `k` trips make of `s`. -/
def trips (s : State Ideal) : ℕ → State Ideal
  | 0 => s
  | k + 1 => step k (trips s k)

section Trips

variable (s : State Ideal)

/-- Trips change nothing but the hidden and the cell state. -/
theorem trips_fixed (k : ℕ) :
    trips s k = { s with main_v8_15 := (trips s k).main_v8_15, main_v8_16 := (trips s k).main_v8_16 } := by
  induction k with
  | zero => rfl
  | succ k ih => rw [trips, step, ih]

/-- From zero states, `k` trips leave the hidden and cell states after `k` steps. -/
theorem trips_eq (hh : ∀ i, s.main_v8_15 i = (0 : EReal)) (hc : ∀ i, s.main_v8_16 i = (0 : EReal)) (b : Fin 8) (k : ℕ) :
    (hOf (trips s k) b, cOf (trips s k) b)
      = refState (gateOf s.main_v8_2 s.main_v8_3 s.main_v8_4) (gateOf s.main_v8_5 s.main_v8_6 s.main_v8_7)
          (gateOf s.main_v8_8 s.main_v8_9 s.main_v8_10) (gateOf s.main_v8_11 s.main_v8_12 s.main_v8_13) (aOf s b) (xOf s b) k := by
  induction k with
  | zero =>
    exact Prod.ext (funext fun _ => funext fun _ => hh _) (funext fun _ => funext fun _ => hc _)
  | succ k ih =>
    have h1 : ∀ n j, hOf (trips s (k + 1)) b n j = _ := fun n j => b60_at k (trips s k) b n j
    have h2 : ∀ n j, cOf (trips s (k + 1)) b n j = _ := fun n j => b43_at k (trips s k) b n j
    rw [refState, ← ih]
    refine Prod.ext (funext fun n => funext fun j => (h1 n j).trans ?_) (funext fun n => funext fun j => (h2 n j).trans ?_)
    all_goals rw [trips_fixed s k]; rfl

end Trips

/-- The head, of the first node's hidden state. -/
theorem out_at (s : State Ideal) (w1 : Vec Ideal S64x64 .f32) (c1 : Vec Ideal S64 .f32) (w2 : Vec Ideal S64x64 .f32)
    (c2 : Vec Ideal S64 .f32) (w3 : Vec Ideal S64x64 .f32) (c3 : Vec Ideal S64 .f32) (w4 : Vec Ideal S64x64 .f32)
    (c4 : Vec Ideal S64 .f32) (b : Fin 8) (j : Fin 64) :
    R_main_v31 s w1 c1 w2 c2 w3 c3 w4 c4 (ix3 b 0 j)
      = head (fun k l => w1 (ix2 k l)) (fun l => c1 (ix1 l)) (fun k l => w2 (ix2 k l)) (fun l => c2 (ix1 l))
          (fun k l => w3 (ix2 k l)) (fun l => c3 (ix1 l)) (fun k l => w4 (ix2 k l)) (fun l => c4 (ix1 l)) (hOf s b 0) j := by
  unfold R_main_v31
  pointwise
  rfl

end Cert.ReferenceIdeal.Enc

end
-- ==== Proof.Precondition.lean ====
/- What the precondition says of the adjacency matrices: no row sum plus the guard is zero. -/
module

public import proofs.«01_k».proof.Defs
public import proofs.«01_k».proof.Proof.RefValue

@[expose] public section

noncomputable section

namespace Cert.Enc

open Idealize.ShloMosaic
open Cert.Pre_denominators_nonzero Cert.ReferenceIdeal.Enc

/-- The shape conditions of the precondition's operations. -/
theorem pre_facts : Cert.Pre_denominators_nonzero.Facts where
  reducesTo_S8x2048x2048_S8x2048_d2 := by decide
  h_S_ := by decide
  bcast_S8x2048_S8x2048x1_0_1 := by decide
  bcast_S_S8x2048x1 := by decide

attribute [local instance] pre_facts

variable (m : (ℓ : Loc Cert.KernelIdeal.nD Cert.KernelIdeal.τ Cert.KernelIdeal.sig) → Buf (Elt Ideal) ℓ)

/-- Under the precondition every denominator of the kernel's adjacency argument is nonzero. -/
theorem rowDen_ne (h : Cert.Pre_KernelIdeal_denominators_nonzero m) (c : Dev Cert.KernelIdeal.nD) (b : Fin 8)
    (n : Fin 2048) : rowDen (m (c.tc.loc Cert.KernelIdeal.main_arg1)) b n ≠ 0 := by
  have h1 := congrFun (h c) (ix3 b n (0 : Fin 1))
  unfold fn at h1
  revert h1
  pointwise
  intro h1 h0
  refine absurd h1 ?_
  unfold rowDen at h0
  rw [decide_eq_false (not_not.mpr h0)]
  decide

end Cert.Enc

end
-- ==== Proof.Equation.lean ====
/- The equation: from agreeing arguments with nonzero denominators, the reference's result is the kernel's. -/
module

public import proofs.«01_k».proof.Proof.KernelArray
public import proofs.«01_k».proof.Proof.Precondition
public import proofs.«01_k».proof.Proof.Gen.ReferenceIdeal.StepRun

@[expose] public section

noncomputable section

namespace Cert.ReferenceIdeal.Enc

open Idealize.ShloMosaic
open Cert.ReferenceIdeal Cert.ReferenceIdeal.Gen Cert.ReferenceIdeal.Step Cert.ReferenceIdeal.StepRun Cert.Enc

variable (a0 : Vec Ideal S8x2048x64 .f32) (a1 : Vec Ideal S8x2048x2048 .f32)
  (a2 a5 a8 a11 : Vec Ideal S128x64 .f32) (a3 a4 a6 a7 a9 a10 a12 a13 : Vec Ideal S64 .f32)

/-- The hidden state after all trips: that of the recurrence, over the rows divided by their denominators. -/
theorem hidden_eq (b : Fin 8) (k : ℕ) :
    hOf (trips (init a0 a2 a3 a4 a5 a6 a7 a8 a9 a10 a11 a12 a13 a1) k) b
      = (refState (gateOf a2 a3 a4) (gateOf a5 a6 a7) (gateOf a8 a9 a10) (gateOf a11 a12 a13)
          (fun n l => Ideal.div (a1 (ix3 b n l)) (rowDen a1 b n)) (fun n d => a0 (ix3 b n d)) k).1 := by
  have h := trips_eq (init a0 a2 a3 a4 a5 a6 a7 a8 a9 a10 a11 a12 a13 a1) (fun _ => Ideal.ofBits_zero_f32)
    (fun _ => Ideal.ofBits_zero_f32) b k
  have hA : aOf (init a0 a2 a3 a4 a5 a6 a7 a8 a9 a10 a11 a12 a13 a1) b
      = fun n l => Ideal.div (a1 (ix3 b n l)) (rowDen a1 b n) := funext fun n => funext fun l => adj_at a1 b n l
  rw [hA] at h
  exact congrArg Prod.fst h

end Cert.ReferenceIdeal.Enc

namespace Cert.Enc

open Idealize.ShloMosaic Idealize.ShloMosaic.TcCoe
open Cert.KernelIdeal Cert.KernelIdeal.Enc Cert.ReferenceIdeal.Enc

variable (m : (ℓ : Loc nD τ sig) → Buf (Elt Ideal) ℓ) (c : Dev nD)

/-- The reference's result at the kernel's arguments. -/
def reference : Vec Ideal Cert.ReferenceIdeal.S8x1x64 .f32 :=
  Cert.ReferenceIdeal.Step.R_main_v31 (F := Ideal) (trips (Cert.ReferenceIdeal.Step.init (F := Ideal) (m (c.tc.loc main_arg0))
      (m (c.tc.loc main_arg2)) (m (c.tc.loc main_arg3)) (m (c.tc.loc main_arg4)) (m (c.tc.loc main_arg5))
      (m (c.tc.loc main_arg6)) (m (c.tc.loc main_arg7)) (m (c.tc.loc main_arg8)) (m (c.tc.loc main_arg9))
      (m (c.tc.loc main_arg10)) (m (c.tc.loc main_arg11)) (m (c.tc.loc main_arg12)) (m (c.tc.loc main_arg13))
      (m (c.tc.loc main_arg1))) 12)
    (m (c.tc.loc main_arg14)) (m (c.tc.loc main_arg15)) (m (c.tc.loc main_arg16)) (m (c.tc.loc main_arg17))
    (m (c.tc.loc main_arg18)) (m (c.tc.loc main_arg19)) (m (c.tc.loc main_arg20)) (m (c.tc.loc main_arg21))

variable (h : ∀ b n, rowDen (m (c.tc.loc main_arg1)) b n ≠ 0)

include h

/-- Row `b` of the reference's result is row `b` of the kernel's. -/
theorem reference_at (b : Fin 8) (j : Fin 64) : reference m c (ix3 b 0 j) = rowOut m c b j := by
  have hA : adjOf (m (c.tc.loc main_arg1)) b
      = fun n l => Ideal.div (m (c.tc.loc main_arg1) (ix3 b n l)) (rowDen (m (c.tc.loc main_arg1)) b n) :=
    funext fun n => funext fun l => mul_recip (h b n) _
  refine (out_at _ _ _ _ _ _ _ _ _ b j).trans ?_
  rw [hidden_eq]
  unfold rowOut
  rw [hA]
  rfl

/-- If no denominator is zero, the reference's result at the kernel's arguments is the kernel's. -/
theorem reference_eq : reference m c = result m c := by
  funext i
  have hi : i = ix3 (i 0 : Fin 8) (0 : Fin 1) (i 2 : Fin 64) := by
    funext d
    fin_cases d
    · rfl
    · exact Subsingleton.elim (α := Fin 1) _ _
    · rfl
  exact (congrArg (reference m c) hi).trans (reference_at m c h (i 0) (i 2))

end Cert.Enc

end
-- ==== Proof.lean ====
/- The certificate of the tree-LSTM encoder: the frames of the kernel, of its idealization and of the reference, and the
   equality of the idealized kernel's result and the reference's, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Enc.pre_facts

/-- The reference terminates from every memory, its arguments unchanged; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel and the reference end with the same result, if no denominator is zero. -/
theorem equation : Cert.algebraic_KernelIdeal_ReferenceIdeal_pre_denominators_nonzero := by
  intro m g m' g' hpre hagree
  refine ⟨fun c => Cert.KernelIdeal.Enc.result m c, ?_, ?_⟩
  · refine (θ_run Cert.KernelIdeal.defs _ _).mono (fun r h c => ?_) (Cert.KernelIdeal.Value.run_blocks (F := Ideal) m g)
    exact ⟨(h c).1.trans (Cert.KernelIdeal.Enc.result_eq m c), (h c).2⟩
  · refine (θ_run Cert.ReferenceIdeal.defs _ _).mono (fun r h c => ?_)
      (Cert.ReferenceIdeal.StepRun.run_iter (F := Ideal) m' g'
        (fun c => Cert.ReferenceIdeal.Enc.trips (Cert.ReferenceIdeal.StepRun.initState m' c)) (fun _ => rfl) (fun _ _ => rfl))
    refine ⟨(h c).1.trans (Eq.trans ?_ (Cert.Enc.reference_eq m c (Cert.Enc.rowDen_ne m hpre c))), (h c).2⟩
    unfold Cert.Enc.reference Cert.ReferenceIdeal.StepRun.initState
    simp only [hagree c]

/-- The certificate. -/
theorem claim : Cert.Claim :=
  ⟨Cert.Kernel.Gen.facts, Cert.KernelIdeal.Gen.facts, Cert.ReferenceIdeal.Gen.facts, Cert.Enc.pre_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, equation⟩

end Cert.Proof

end
